-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x9472 : Shape := ⟨3, ![2, 2048, 9472]⟩
abbrev S2x2048x1 : Shape := ⟨3, ![2, 2048, 1]⟩
abbrev S9472x3584 : Shape := ⟨2, ![9472, 3584]⟩
abbrev S3584 : Shape := ⟨1, ![3584]⟩
abbrev S4096x9472 : Shape := ⟨2, ![4096, 9472]⟩
abbrev S4096x1 : Shape := ⟨2, ![4096, 1]⟩
abbrev S1x3584 : Shape := ⟨2, ![1, 3584]⟩
abbrev S4096x3584 : Shape := ⟨2, ![4096, 3584]⟩
abbrev S256x9472 : Shape := ⟨2, ![256, 9472]⟩
abbrev S256x1 : Shape := ⟨2, ![256, 1]⟩
abbrev S256x3584 : Shape := ⟨2, ![256, 3584]⟩
abbrev S256 : Shape := ⟨1, ![256]⟩
abbrev S1x255 : Shape := ⟨2, ![1, 255]⟩
abbrev S256x255 : Shape := ⟨2, ![256, 255]⟩

abbrev nBuf : Space → Nat
  | .hbm => 11
  | .vmem => 11
  | .smem => 0
  | _ => 0

abbrev bufTy : (tb : Table) → Fin (tcTables nBuf tb) → BufTy
  | .hbm, ⟨0, _⟩ => ⟨S2x2048x9472, .fp8e4m3⟩
  | .hbm, ⟨1, _⟩ => ⟨S2x2048x1, .f32⟩
  | .hbm, ⟨2, _⟩ => ⟨S9472x3584, .fp8e4m3⟩
  | .hbm, ⟨3, _⟩ => ⟨S3584, .f32⟩
  | .hbm, ⟨4, _⟩ => ⟨S3584, .f32⟩
  | .hbm, ⟨5, _⟩ => ⟨S4096x9472, .fp8e4m3⟩
  | .hbm, ⟨6, _⟩ => ⟨S4096x1, .f32⟩
  | .hbm, ⟨7, _⟩ => ⟨S1x3584, .f32⟩
  | .hbm, ⟨8, _⟩ => ⟨S1x3584, .f32⟩
  | .hbm, ⟨9, _⟩ => ⟨S4096x1, .f32⟩
  | .hbm, ⟨10, _⟩ => ⟨S4096x3584, .fp8e4m3⟩
  | .local _ .vmem, ⟨0, _⟩ => ⟨S256x9472, .fp8e4m3⟩
  | .local _ .vmem, ⟨1, _⟩ => ⟨S256x9472, .fp8e4m3⟩
  | .local _ .vmem, ⟨2, _⟩ => ⟨S256x1, .f32⟩
  | .local _ .vmem, ⟨3, _⟩ => ⟨S256x1, .f32⟩
  | .local _ .vmem, ⟨4, _⟩ => ⟨S9472x3584, .fp8e4m3⟩
  | .local _ .vmem, ⟨5, _⟩ => ⟨S1x3584, .f32⟩
  | .local _ .vmem, ⟨6, _⟩ => ⟨S1x3584, .f32⟩
  | .local _ .vmem, ⟨7, _⟩ => ⟨S256x1, .f32⟩
  | .local _ .vmem, ⟨8, _⟩ => ⟨S256x1, .f32⟩
  | .local _ .vmem, ⟨9, _⟩ => ⟨S256x3584, .fp8e4m3⟩
  | .local _ .vmem, ⟨10, _⟩ => ⟨S256x3584, .fp8e4m3⟩
  | _, _ => ⟨S2x2048x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9472 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x9472 : Shape := ⟨3, ![2, 2048, 9472]⟩
abbrev S2x2048x1 : Shape := ⟨3, ![2, 2048, 1]⟩
abbrev S9472x3584 : Shape := ⟨2, ![9472, 3584]⟩
abbrev S3584 : Shape := ⟨1, ![3584]⟩
abbrev S4096x9472 : Shape := ⟨2, ![4096, 9472]⟩
abbrev S4096x1 : Shape := ⟨2, ![4096, 1]⟩
abbrev S1x3584 : Shape := ⟨2, ![1, 3584]⟩
abbrev S4096x3584 : Shape := ⟨2, ![4096, 3584]⟩
abbrev S4096 : Shape := ⟨1, ![4096]⟩
abbrev S1x254 : Shape := ⟨2, ![1, 254]⟩
abbrev S4096x254 : Shape := ⟨2, ![4096, 254]⟩

abbrev nBuf : Space → Nat
  | .hbm => 11
  | .vmem => 7
  | .smem => 0
  | _ => 0

abbrev bufTy : (tb : Table) → Fin (tcTables nBuf tb) → BufTy
  | .hbm, ⟨0, _⟩ => ⟨S2x2048x9472, .fp8e4m3⟩
  | .hbm, ⟨1, _⟩ => ⟨S2x2048x1, .f32⟩
  | .hbm, ⟨2, _⟩ => ⟨S9472x3584, .fp8e4m3⟩
  | .hbm, ⟨3, _⟩ => ⟨S3584, .f32⟩
  | .hbm, ⟨4, _⟩ => ⟨S3584, .f32⟩
  | .hbm, ⟨5, _⟩ => ⟨S4096x9472, .fp8e4m3⟩
  | .hbm, ⟨6, _⟩ => ⟨S4096x1, .f32⟩
  | .hbm, ⟨7, _⟩ => ⟨S1x3584, .f32⟩
  | .hbm, ⟨8, _⟩ => ⟨S1x3584, .f32⟩
  | .hbm, ⟨9, _⟩ => ⟨S4096x1, .f32⟩
  | .hbm, ⟨10, _⟩ => ⟨S4096x3584, .fp8e4m3⟩
  | .local _ .vmem, ⟨0, _⟩ => ⟨S4096x9472, .fp8e4m3⟩
  | .local _ .vmem, ⟨1, _⟩ => ⟨S4096x1, .f32⟩
  | .local _ .vmem, ⟨2, _⟩ => ⟨S9472x3584, .fp8e4m3⟩
  | .local _ .vmem, ⟨3, _⟩ => ⟨S1x3584, .f32⟩
  | .local _ .vmem, ⟨4, _⟩ => ⟨S1x3584, .f32⟩
  | .local _ .vmem, ⟨5, _⟩ => ⟨S4096x1, .f32⟩
  | .local _ .vmem, ⟨6, _⟩ => ⟨S4096x3584, .fp8e4m3⟩
  | _, _ => ⟨S2x2048x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
module

public import Idealize.ShloMosaic.Lib.IdealHost
public import Idealize.ShloMosaic.Lib.Pointwise

/-! # The power-of-two scale of a row, in the kernel's words and in the reference's

The kernel finds the exponent by counting the single-precision powers of two below the quotient and builds the scale from
its bit pattern; the reference takes the least exponent whose power exceeds the quotient and raises two to it. On a row
maximum of absolute values — a number that is not negative — the two give the same scale and the same inverse. -/

@[expose] public section

noncomputable section

namespace Cert.Scale

open Idealize.ShloMosaic

/-! ## The kernel's words -/

/-- The single-precision number whose exponent field is the low byte of `f` and whose other bits are zero. -/
def fieldPower (f : BitVec 32) : Ideal .f32 := FloatOps.ofBits (F := Ideal) .f32 (IntOp.shli .vector f 23#32)

/-- The number of single-precision powers of two, infinity included, that `|v|` reaches. -/
def reachedCount (v : Ideal .f32) : BitVec 32 :=
  Finset.univ.fold IntOp.addi 0#32 fun k : Fin 255 =>
    BitVec.setWidth 32 (FloatOps.cmpf .oge (FloatOps.absf v) (fieldPower (IntOp.addi (BitVec.ofNat 32 k) 1#32)))

/-- The exponent the kernel's `frexp` returns, from the count. -/
def exponentOfCount (f : BitVec 32) : BitVec 32 :=
  Scalar.select (IntOp.ori (IntOp.cmpi .eq f 0#32) (IntOp.cmpi .eq f 255#32)) 0#32 (IntOp.subi f 126#32)

/-- The kernel's exponent for a row whose largest absolute value is `a`. -/
def kernelExponent (a : Ideal .f32) : BitVec 32 :=
  Scalar.select (FloatOps.cmpf .oeq a (FloatOps.ofBits (F := Ideal) .f32 0x00000000#32)) 0#32
    (exponentOfCount (reachedCount (FloatOps.mulf a (FloatOps.ofBits (F := Ideal) .f32 0x3B124925#32))))

/-- `2 ^ e` as the kernel builds it: the exponent field `e + 127`, clipped to its range. -/
def kernelPower (e : BitVec 32) : Ideal .f32 :=
  fieldPower (IntOp.minsi 255#32 (IntOp.maxsi 0#32 (IntOp.addi e 127#32)))

/-- The kernel's scale. -/
def kernelScale (a : Ideal .f32) : Ideal .f32 := kernelPower (kernelExponent a)

/-- The kernel's inverse scale. -/
def kernelInverse (a : Ideal .f32) : Ideal .f32 := kernelPower (IntOp.subi 0#32 (kernelExponent a))

/-! ## The reference's words -/

/-- Candidate exponent `k`: `k - 125`. -/
def candidate (k : Fin 254) : Ideal .f32 :=
  FloatOps.subf (FloatOps.sitofp .f32 (BitVec.ofNat 32 k)) (FloatOps.ofBits (F := Ideal) .f32 0x42FA0000#32)

/-- The least candidate whose power exceeds `v`, 128 if none does. -/
def leastExponent (v : Ideal .f32) : Ideal .f32 :=
  Finset.univ.fold min (Ideal.ofBits .f32 0x7F800000#32) fun k : Fin 254 =>
    Scalar.select (FloatOps.cmpf .olt v (FloatOps.exp2 (candidate k))) (candidate k) (FloatOps.ofBits (F := Ideal) .f32 0x43000000#32)

/-- The exponent the reference's `frexp` returns at `v`. -/
def exponentAt (v : Ideal .f32) : Ideal .f32 :=
  Scalar.select (IntOp.ori (FloatOps.cmpf .olt v (FloatOps.ofBits (F := Ideal) .f32 0x00800000#32))
    (FloatOps.cmpf .oeq v (FloatOps.ofBits (F := Ideal) .f32 0x7F800000#32)))
    (FloatOps.ofBits (F := Ideal) .f32 0x00000000#32) (leastExponent v)

/-- The reference's exponent for a row whose largest absolute value is `a`. -/
def referenceExponent (a : Ideal .f32) : Ideal .f32 :=
  Scalar.select (FloatOps.cmpf .oeq a (FloatOps.ofBits (F := Ideal) .f32 0x00000000#32)) (FloatOps.ofBits (F := Ideal) .f32 0x00000000#32)
    (exponentAt (FloatOps.mulf a (FloatOps.ofBits (F := Ideal) .f32 0x3B124925#32)))

/-- The reference's scale at exponent `e`. -/
def referencePower (e : Ideal .f32) : Ideal .f32 :=
  Scalar.select (FloatOps.cmpf .ogt e (FloatOps.ofBits (F := Ideal) .f32 0x42FE0000#32)) (FloatOps.ofBits (F := Ideal) .f32 0x7F800000#32)
    (FloatOps.exp2 e)

/-- The reference's inverse scale at exponent `e`. -/
def referencePowerNeg (e : Ideal .f32) : Ideal .f32 :=
  Scalar.select (FloatOps.cmpf .olt (FloatOps.subf (FloatOps.ofBits (F := Ideal) .f32 0x00000000#32) e) (FloatOps.ofBits (F := Ideal) .f32 0xC2FC0000#32))
    (FloatOps.ofBits (F := Ideal) .f32 0x00000000#32) (FloatOps.exp2 (FloatOps.subf (FloatOps.ofBits (F := Ideal) .f32 0x00000000#32) e))

/-- The reference's scale. -/
def referenceScale (a : Ideal .f32) : Ideal .f32 := referencePower (referenceExponent a)

/-- The reference's inverse scale. -/
def referenceInverse (a : Ideal .f32) : Ideal .f32 := referencePowerNeg (referenceExponent a)

/-! ## The numbers -/

/-- The number with exponent field `k`. -/
def pw (k : ℕ) : EReal := fieldPower (BitVec.ofNat 32 k)

theorem field_facts : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- Field 0 is zero. -/
theorem pw_zero : pw 0 = 0 := by
  obtain ⟨h1, h2, h3⟩ := field_facts 0
  show Ideal.ieee 8 23 (IntOp.shli .vector (BitVec.ofNat 32 0) 23#32) = 0
  simp only [Fin.isValue, Fin.coe_ofNat_eq_mod, Nat.zero_mod] at h1 h2 h3
  unfold Ideal.ieee
  simp [h1, h2, h3]

/-- Field 255 is infinity. -/
theorem pw_top : pw 255 = ⊤ := by
  obtain ⟨h1, h2, h3⟩ := field_facts 255
  show Ideal.ieee 8 23 (IntOp.shli .vector (BitVec.ofNat 32 255) 23#32) = ⊤
  have e : ((255 : Fin 256) : ℕ) = 255 := rfl
  rw [e] at h1 h2 h3
  unfold Ideal.ieee
  simp [h1, h2, h3]

/-- A word with sign bit clear, exponent field `k` between the ends and fraction zero is `2 ^ (k - 127)`. -/
theorem ieee_power (w : BitVec 32) {k : ℕ} (h0 : 1 ≤ k) (h1 : k ≤ 254) (g1 : w.extractLsb' 31 1 = 0#1) (g2 : (w.extractLsb' 23 8).toNat = k)
    (g3 : (w.extractLsb' 0 23).toNat = 0) : Ideal.ieee 8 23 w = (((2 : ℝ) ^ ((k : ℤ) - 127) : ℝ) : EReal) := by
  have a1 : ¬ k = 2 ^ 8 - 1 := by omega
  have a2 : ¬ k = 0 := by omega
  have e : ((0#1 : BitVec 1) == 1#1) = false := by decide
  unfold Ideal.ieee
  simp only [g1, g2, g3, e, if_neg a1, if_neg a2]
  refine congrArg _ ?_
  have h2 : (2 : ℝ) ^ ((k : ℤ) - 127) = (2 : ℝ) ^ (23 : ℤ) * (2 : ℝ) ^ ((k : ℤ) - 127 - 23) := by
    rw [← zpow_add₀ (by norm_num : (2 : ℝ) ≠ 0)]
    exact congrArg _ (by omega)
  rw [h2]
  norm_num

/-- Field `k` between is `2 ^ (k - 127)`. -/
theorem pw_real {k : ℕ} (h0 : 1 ≤ k) (h1 : k ≤ 254) : pw k = (((2 : ℝ) ^ ((k : ℤ) - 127) : ℝ) : EReal) := by
  obtain ⟨g1, g2, g3⟩ := field_facts ⟨k, by omega⟩
  exact ieee_power _ h0 h1 g1 g2 g3

/-- Larger fields give larger numbers. -/
theorem pw_mono {j k : ℕ} (h : j < k) (hk : k ≤ 255) : pw j < pw k := by
  rcases Nat.eq_zero_or_pos j with rfl | hj
  · rw [pw_zero]
    rcases Nat.lt_or_ge k 255 with h5 | h5
    · rw [pw_real (by omega) (by omega)]
      exact_mod_cast (by positivity : (0 : ℝ) < 2 ^ ((k : ℤ) - 127))
    · rw [show k = 255 by omega, pw_top]; exact EReal.zero_lt_top
  · rw [pw_real hj (by omega)]
    rcases Nat.lt_or_ge k 255 with h5 | h5
    · rw [pw_real (by omega) (by omega), EReal.coe_lt_coe_iff]
      exact zpow_lt_zpow_right₀ (by norm_num) (by omega)
    · rw [show k = 255 by omega, pw_top]; exact EReal.coe_lt_top _

/-- A number that is not negative has a field `K` such that the powers it reaches are those of the fields up to `K`. -/
theorem exists_field {v : EReal} (hv : 0 ≤ v) : ∃ K ≤ 255, ∀ k ≤ 255, pw k ≤ v ↔ k ≤ K := by
  classical
  refine ⟨Nat.findGreatest (fun k => pw k ≤ v) 255, Nat.findGreatest_le _, fun k hk => ⟨fun h => Nat.le_findGreatest hk h, fun h => ?_⟩⟩
  have hK : pw (Nat.findGreatest (fun k => pw k ≤ v) 255) ≤ v :=
    Nat.findGreatest_spec (P := fun k => pw k ≤ v) (Nat.zero_le 255) (by rw [pw_zero]; exact hv)
  rcases Nat.lt_or_ge k (Nat.findGreatest (fun k => pw k ≤ v) 255) with g | g
  · exact (pw_mono g (Nat.findGreatest_le _)).le.trans hK
  · rwa [Nat.le_antisymm h g]

/-- Counting the fields up to `K`. -/
theorem count_le : ∀ K : Fin 256, (Finset.univ.fold IntOp.addi 0#32 fun k : Fin 255 => BitVec.setWidth 32 (BitVec.ofBool (decide (k.val + 1 ≤ K.val))))
    = BitVec.ofNat 32 K.val := by
  decide +kernel

/-- The count is that field. -/
theorem reachedCount_eq {v : EReal} (hv : 0 ≤ v) {K : ℕ} (hK : K ≤ 255) (h : ∀ k ≤ 255, pw k ≤ v ↔ k ≤ K) : reachedCount v = BitVec.ofNat 32 K := by
  rw [← count_le ⟨K, by omega⟩]
  unfold reachedCount
  congr 1
  funext k
  have e : IntOp.addi (BitVec.ofNat 32 k.val) 1#32 = BitVec.ofNat 32 (k.val + 1) := (BitVec.ofNat_add_ofNat ..)
  rw [e]
  show BitVec.setWidth 32 (BitVec.ofBool (decide (pw (k.val + 1) ≤ max v (-v)))) = _
  have hm : max v (-v) = v := max_eq_left (le_trans (by simpa using EReal.neg_le_neg_iff.mpr hv) hv)
  have hk := k.isLt
  rw [hm, decide_eq_decide.mpr (h (k.val + 1) (by omega))]

/-- The constants as numbers. -/
theorem bits_zero : Ideal.ofBits .f32 0x00000000#32 = 0 := pw_zero
theorem bits_top : Ideal.ofBits .f32 0x7F800000#32 = ⊤ := pw_top
theorem bits_125 : Ideal.ofBits .f32 0x42FA0000#32 = ((125 : ℝ) : EReal) := by
  show Ideal.ieee 8 23 (0x42FA0000#32) = _
  simp [Ideal.ieee]
  rw [← EReal.coe_mul]
  norm_num
theorem bits_128 : Ideal.ofBits .f32 0x43000000#32 = ((128 : ℝ) : EReal) := by
  show Ideal.ieee 8 23 (0x43000000#32) = _
  simp [Ideal.ieee]
  rw [← EReal.coe_mul]
  norm_num
theorem bits_127 : Ideal.ofBits .f32 0x42FE0000#32 = ((127 : ℝ) : EReal) := by
  show Ideal.ieee 8 23 (0x42FE0000#32) = _
  simp [Ideal.ieee]
  rw [← EReal.coe_mul]
  norm_num
theorem bits_neg126 : Ideal.ofBits .f32 0xC2FC0000#32 = ((-126 : ℝ) : EReal) := by
  show Ideal.ieee 8 23 (0xC2FC0000#32) = _
  simp [Ideal.ieee]
  rw [← EReal.coe_mul]
  norm_num
theorem bits_quotient_nonneg : 0 ≤ Ideal.ofBits .f32 0x3B124925#32 := by
  show 0 ≤ Ideal.ieee 8 23 (0x3B124925#32)
  simp [Ideal.ieee]
  rw [← EReal.coe_mul]
  exact_mod_cast (by positivity)

/-- Two to an integer power. -/
theorem exp2_int (n : ℤ) : Ideal.exp2 (((n : ℝ) : ℝ) : EReal) = (((2 : ℝ) ^ n : ℝ) : EReal) := by
  rw [Ideal.exp2_coe]
  congr 1
  exact Real.rpow_intCast 2 n

theorem toInt_small : ∀ k : Fin 254, (BitVec.ofNat 32 k.val).toInt = (k.val : ℤ) := by decide +kernel

/-- A candidate as a number. -/
theorem candidate_eq (k : Fin 254) : candidate k = ((((k.val : ℤ) - 125 : ℤ) : ℝ) : EReal) := by
  show (((BitVec.ofNat 32 k.val).toInt : ℝ) : EReal) - Ideal.ofBits .f32 0x42FA0000#32 = _
  rw [toInt_small, bits_125, ← EReal.coe_sub]
  push_cast
  rfl

/-- A candidate's power as a number. -/
theorem exp2_candidate (k : Fin 254) : FloatOps.exp2 (candidate k) = (((2 : ℝ) ^ ((k.val : ℤ) - 125) : ℝ) : EReal) := by
  rw [candidate_eq]; exact exp2_int _

/-- The least candidate whose power exceeds a number of field `K`. -/
theorem leastExponent_eq {v : EReal} {K : ℕ} (h0 : 1 ≤ K) (h1 : K ≤ 254) (h : ∀ k ≤ 255, pw k ≤ v ↔ k ≤ K) :
    leastExponent v = ((((K : ℤ) - 126 : ℤ) : ℝ) : EReal) := by
  have term (k : Fin 254) : Scalar.select (FloatOps.cmpf (F := Ideal) (φ := .f32) .olt v (FloatOps.exp2 (candidate k))) (candidate k) (FloatOps.ofBits (F := Ideal) .f32 0x43000000#32)
      = ((((if K < k.val + 2 then (k.val : ℤ) - 125 else 128 : ℤ)) : ℝ) : EReal) := by
    show (if BitVec.ofBool (decide (v < FloatOps.exp2 (candidate k))) = 1 then candidate k else Ideal.ofBits .f32 0x43000000#32) = _
    rw [bits_128, exp2_candidate, candidate_eq]
    have hk := k.isLt
    rcases Nat.lt_or_ge k.val 253 with hk3 | hk3
    · have e : (((2 : ℝ) ^ ((k.val : ℤ) - 125) : ℝ) : EReal) = pw (k.val + 2) := by
        rw [pw_real (by omega) (by omega)]
        congr 2
        push_cast
        ring
      rw [e]
      have hlt : v < pw (k.val + 2) ↔ K < k.val + 2 := by
        rw [← not_le, h (k.val + 2) (by omega), not_le]
      by_cases g : K < k.val + 2
      · rw [if_pos g, decide_eq_true (hlt.mpr g)]; rfl
      · rw [if_neg g, decide_eq_false (fun q => g (hlt.mp q)), if_neg (by decide)]; norm_num
    · have e3 : k.val = 253 := by omega
      have e4 : K < 253 + 2 := by omega
      rw [e3, if_pos e4]
      norm_num
  unfold leastExponent
  simp only [term]
  apply le_antisymm
  · refine Finset.fold_min_le _ |>.mpr (.inr ⟨⟨K - 1, by omega⟩, Finset.mem_univ _, ?_⟩)
    rw [EReal.coe_le_coe_iff, Int.cast_le, if_pos (by show K < K - 1 + 2; omega)]
    show ((K - 1 : ℕ) : ℤ) - 125 ≤ _
    omega
  · refine Finset.le_fold_min _ |>.mpr ⟨by rw [bits_top]; exact le_top, fun k _ => ?_⟩
    rw [EReal.coe_le_coe_iff, Int.cast_le]
    split_ifs <;> omega

/-- The kernel's exponent of a count, as a field: the count less 126, zero at the ends. -/
def exponentOf (K : ℕ) : ℤ := if K = 0 ∨ K = 255 then 0 else (K : ℤ) - 126

/-- The reference's exponent at a number of field `K`. -/
theorem exponentAt_eq {v : EReal} {K : ℕ} (hK : K ≤ 255) (h : ∀ k ≤ 255, pw k ≤ v ↔ k ≤ K) :
    exponentAt v = ((exponentOf K : ℝ) : EReal) := by
  have hlow : v < Ideal.ofBits .f32 0x00800000#32 ↔ K = 0 := by
    show v < pw 1 ↔ _
    rw [← not_le, h 1 (by omega)]; omega
  have hhigh : v = Ideal.ofBits .f32 0x7F800000#32 ↔ K = 255 := by
    show v = pw 255 ↔ _
    rw [pw_top, ← top_le_iff, ← pw_top, h 255 le_rfl]; omega
  show (if BitVec.ofBool (decide (v < Ideal.ofBits .f32 0x00800000#32)) ||| BitVec.ofBool (decide (v = Ideal.ofBits .f32 0x7F800000#32)) = 1
    then Ideal.ofBits .f32 0x00000000#32 else leastExponent v) = _
  rw [decide_eq_decide.mpr hlow, decide_eq_decide.mpr hhigh, bits_zero]
  by_cases g0 : K = 0
  · subst g0; simp [exponentOf]
  · by_cases g5 : K = 255
    · subst g5; simp [exponentOf]
    · rw [leastExponent_eq (by omega) (by omega) h, decide_eq_false g0, decide_eq_false g5]
      simp [exponentOf, g0, g5]

/-- The kernel's power at the exponent of every count, as a field. -/
theorem kernelPower_field : ∀ K : Fin 256,
    IntOp.minsi 255#32 (IntOp.maxsi 0#32 (IntOp.addi (exponentOfCount (BitVec.ofNat 32 K.val)) 127#32))
      = BitVec.ofNat 32 (exponentOf K.val + 127).toNat
    ∧ IntOp.minsi 255#32 (IntOp.maxsi 0#32 (IntOp.addi (IntOp.subi 0#32 (exponentOfCount (BitVec.ofNat 32 K.val))) 127#32))
      = BitVec.ofNat 32 (127 - exponentOf K.val).toNat := by
  decide +kernel

theorem exponentOf_bounds {K : ℕ} (hK : K ≤ 255) : -125 ≤ exponentOf K ∧ exponentOf K ≤ 128 := by
  unfold exponentOf; split_ifs <;> omega

/-- The power of field `e + 127` is the reference's scale at exponent `e`. -/
theorem referencePower_eq {e : ℤ} (h0 : -125 ≤ e) (h1 : e ≤ 128) : referencePower ((e : ℝ) : EReal) = pw (e + 127).toNat := by
  show (if BitVec.ofBool (decide (Ideal.ofBits .f32 0x42FE0000#32 < ((e : ℝ) : EReal))) = 1 then Ideal.ofBits .f32 0x7F800000#32
    else Ideal.exp2 ((e : ℝ) : EReal)) = _
  have hd : Ideal.ofBits .f32 0x42FE0000#32 < ((e : ℝ) : EReal) ↔ 127 < e := by
    rw [bits_127, EReal.coe_lt_coe_iff]; exact_mod_cast Iff.rfl
  rw [decide_eq_decide.mpr hd, bits_top, exp2_int]
  by_cases g : 127 < e
  · rw [show (e + 127).toNat = 255 by omega, pw_top, decide_eq_true g]
    rfl
  · rw [pw_real (by omega) (by omega), Int.toNat_of_nonneg (by omega), decide_eq_false g]
    simp

/-- The power of field `127 - e` is the reference's inverse scale at exponent `e`. -/
theorem referencePowerNeg_eq {e : ℤ} (h0 : -125 ≤ e) (h1 : e ≤ 128) : referencePowerNeg ((e : ℝ) : EReal) = pw (127 - e).toNat := by
  have hneg : (Ideal.ofBits .f32 0x00000000#32 - ((e : ℝ) : EReal) : EReal) = (((-e : ℤ) : ℝ) : EReal) := by
    rw [bits_zero, zero_sub, ← EReal.coe_neg, Int.cast_neg]
  show (if BitVec.ofBool (decide (Ideal.ofBits .f32 0x00000000#32 - ((e : ℝ) : EReal) < Ideal.ofBits .f32 0xC2FC0000#32)) = 1
    then Ideal.ofBits .f32 0x00000000#32 else Ideal.exp2 (Ideal.ofBits .f32 0x00000000#32 - ((e : ℝ) : EReal))) = _
  rw [hneg]
  have hd : (((-e : ℤ) : ℝ) : EReal) < Ideal.ofBits .f32 0xC2FC0000#32 ↔ -e < -126 := by
    rw [bits_neg126, EReal.coe_lt_coe_iff]; exact_mod_cast Iff.rfl
  rw [decide_eq_decide.mpr hd, bits_zero, exp2_int]
  by_cases g : -e < -126
  · rw [show (127 - e).toNat = 0 by omega, pw_zero, decide_eq_true g]
    simp
  · rw [pw_real (by omega) (by omega), Int.toNat_of_nonneg (by omega), decide_eq_false g]
    simp only [BitVec.ofBool_false, Fin.isValue]
    rw [if_neg (by decide)]
    congr 2
    ring

/-- On a number that is not negative the two scales agree, and so do the two inverses. -/
theorem scale_and_inverse {a : EReal} (ha : 0 ≤ a) : kernelScale a = referenceScale a ∧ kernelInverse a = referenceInverse a := by
  have hz : FloatOps.cmpf (F := Ideal) (φ := .f32) .oeq a (FloatOps.ofBits (F := Ideal) .f32 0x00000000#32) = BitVec.ofBool (decide (a = 0)) := by
    show BitVec.ofBool (decide (a = Ideal.ofBits .f32 0x00000000#32)) = _
    rw [bits_zero]
  have main (K : ℕ) (hK : K ≤ 255) (hk : kernelExponent a = exponentOfCount (BitVec.ofNat 32 K))
      (hr : referenceExponent a = ((exponentOf K : ℝ) : EReal)) : kernelScale a = referenceScale a ∧ kernelInverse a = referenceInverse a := by
    obtain ⟨b0, b1⟩ := exponentOf_bounds hK
    obtain ⟨f1, f2⟩ := kernelPower_field ⟨K, by omega⟩
    unfold kernelScale referenceScale kernelInverse referenceInverse kernelPower
    rw [hk, hr, referencePower_eq b0 b1, referencePowerNeg_eq b0 b1]
    simp only at f1 f2
    rw [f1, f2]
    exact ⟨rfl, rfl⟩
  by_cases h0 : a = 0
  · refine main 0 (by omega) ?_ ?_
    · unfold kernelExponent
      rw [hz, decide_eq_true h0]
      rfl
    · unfold referenceExponent
      rw [hz, decide_eq_true h0]
      show Ideal.ofBits .f32 0x00000000#32 = _
      rw [bits_zero]
      simp [exponentOf]
  · have hv : (0 : EReal) ≤ FloatOps.mulf (F := Ideal) (φ := .f32) a (FloatOps.ofBits (F := Ideal) .f32 0x3B124925#32) := mul_nonneg ha bits_quotient_nonneg
    obtain ⟨K, hK, h⟩ := exists_field hv
    refine main K hK ?_ ?_
    · unfold kernelExponent
      rw [hz, decide_eq_false h0, reachedCount_eq hv hK h]
      rfl
    · unfold referenceExponent
      rw [hz, decide_eq_false h0, exponentAt_eq hK h]
      rfl

end Cert.Scale

end

end
-- ==== Proof.Linear.lean ====
module

public import proofs.«01_k».proof.Proof.Scale

/-! # One row of the linear layer, and the row maximum

Row data: the row's codes `x` and scale `xs`; the weights `w`, their scales `ws` and the bias `b` are shared by the rows. -/

@[expose] public section

noncomputable section

namespace Cert.Linear

open Idealize.ShloMosaic

/-- Column `c` of the row's dequantised product plus bias. -/
def rowValue (x : Fin 9472 → EReal) (xs : EReal) (w : (⟨2, ![9472, 3584]⟩ : Shape).Idx → EReal) (ws b : (⟨2, ![1, 3584]⟩ : Shape).Idx → EReal) (c : Fin 3584) : EReal :=
  (∑ k, x k * w (ix2 k c)) * xs * ws (ix2 0 c) + b (ix2 0 c)

/-- The largest absolute value of the row. -/
def rowMaximum (x : Fin 9472 → EReal) (xs : EReal) (w : (⟨2, ![9472, 3584]⟩ : Shape).Idx → EReal) (ws b : (⟨2, ![1, 3584]⟩ : Shape).Idx → EReal) : EReal :=
  Finset.univ.fold max (Ideal.ofBits .f32 0xFF800000#32) fun c : Fin 3584 => FloatOps.absf (F := Ideal) (φ := .f32) (rowValue x xs w ws b c)

/-- The largest absolute value is not negative. -/
theorem rowMaximum_nonneg (x : Fin 9472 → EReal) (xs : EReal) (w : (⟨2, ![9472, 3584]⟩ : Shape).Idx → EReal) (ws b : (⟨2, ![1, 3584]⟩ : Shape).Idx → EReal) :
    0 ≤ rowMaximum x xs w ws b := by
  unfold rowMaximum
  refine (Finset.le_fold_max _).mpr (.inr ⟨0, Finset.mem_univ _, ?_⟩)
  show (0 : EReal) ≤ max (rowValue x xs w ws b 0) (-rowValue x xs w ws b 0)
  rcases le_total 0 (rowValue x xs w ws b 0) with h | h
  · exact le_max_of_le_left h
  · exact le_max_of_le_right (by simpa using EReal.neg_le_neg_iff.mpr h)

/-- A value times an inverse scale, clipped to the range of the output codes. -/
def code (y inv : EReal) : EReal :=
  FloatOps.minimumf (F := Ideal) (φ := .f32) (FloatOps.ofBits (F := Ideal) .f32 0x43E00000#32)
    (FloatOps.maximumf (F := Ideal) (φ := .f32) (FloatOps.ofBits (F := Ideal) .f32 0xC3E00000#32) (FloatOps.mulf (F := Ideal) (φ := .f32) y inv))

/-- The column of scales of all the rows, `s` the scale of a row maximum. -/
def scaleColumn (s : EReal → EReal) (x : (⟨2, ![4096, 9472]⟩ : Shape).Idx → EReal) (xs : (⟨2, ![4096, 1]⟩ : Shape).Idx → EReal)
    (w : (⟨2, ![9472, 3584]⟩ : Shape).Idx → EReal) (ws b : (⟨2, ![1, 3584]⟩ : Shape).Idx → EReal) : (⟨2, ![4096, 1]⟩ : Shape).Idx → EReal :=
  fun y => s (rowMaximum (fun k => x (ix2 (y 0) k)) (xs (ix2 (y 0) 0)) w ws b)

/-- The matrix of codes of all the rows, `s` the inverse scale of a row maximum. -/
def codeMatrix (s : EReal → EReal) (x : (⟨2, ![4096, 9472]⟩ : Shape).Idx → EReal) (xs : (⟨2, ![4096, 1]⟩ : Shape).Idx → EReal)
    (w : (⟨2, ![9472, 3584]⟩ : Shape).Idx → EReal) (ws b : (⟨2, ![1, 3584]⟩ : Shape).Idx → EReal) : (⟨2, ![4096, 3584]⟩ : Shape).Idx → EReal :=
  fun y => code (rowValue (fun k => x (ix2 (y 0) k)) (xs (ix2 (y 0) 0)) w ws b (y 1)) (s (rowMaximum (fun k => x (ix2 (y 0) k)) (xs (ix2 (y 0) 0)) w ws b))

/-- The kernel's scales are the reference's. -/
theorem scaleColumn_eq (x : (⟨2, ![4096, 9472]⟩ : Shape).Idx → EReal) (xs : (⟨2, ![4096, 1]⟩ : Shape).Idx → EReal)
    (w : (⟨2, ![9472, 3584]⟩ : Shape).Idx → EReal) (ws b : (⟨2, ![1, 3584]⟩ : Shape).Idx → EReal) :
    scaleColumn Scale.kernelScale x xs w ws b = scaleColumn Scale.referenceScale x xs w ws b :=
  funext fun _ => (Scale.scale_and_inverse (rowMaximum_nonneg _ _ _ _ _)).1

/-- The kernel's codes are the reference's. -/
theorem codeMatrix_eq (x : (⟨2, ![4096, 9472]⟩ : Shape).Idx → EReal) (xs : (⟨2, ![4096, 1]⟩ : Shape).Idx → EReal)
    (w : (⟨2, ![9472, 3584]⟩ : Shape).Idx → EReal) (ws b : (⟨2, ![1, 3584]⟩ : Shape).Idx → EReal) :
    codeMatrix Scale.kernelInverse x xs w ws b = codeMatrix Scale.referenceInverse x xs w ws b :=
  funext fun _ => congrArg (code _) (Scale.scale_and_inverse (rowMaximum_nonneg _ _ _ _ _)).2

end Cert.Linear

end

end
-- ==== Proof.Rows.lean ====
module

public import Idealize.ShloMosaic.Lib.MatmulPlain
public import Idealize.ShloMosaic.Lib.Pointwise
public import Idealize.ShloMosaic.Lib.Pipeline.Value

/-! # A reduction along the rows of a matrix, kept as a column, read at a row

The number of rows is a variable, so that one text serves a block of the kernel and the whole array of the reference. -/

@[expose] public section

namespace Cert.Rows

open Idealize.ShloMosaic

/-- A vector of `M` elements laid out as a column: row `i` of the column is element `i`. -/
theorem column_apply {α : Type} {M : ℕ} (v : (⟨1, ![M]⟩ : Shape).Idx → α) (hc : (⟨1, ![M]⟩ : Shape).ShapeCasts ⟨2, ![M, 1]⟩) (i : Fin M) :
    shapeCast ⟨2, ![M, 1]⟩ v hc (ix2 i 0) = v (ix1 i) :=
  shapeCast_apply v hc (ix2 i 0) (ix1 i) (by
    rw [Shape.rowMajor_val_one, Shape.rowMajor_val_two]
    show i.val = i.val * 1 + 0
    omega)

/-- Row `i` of the column of row maxima is the maximum of row `i`. -/
theorem rowMax_apply {M N : ℕ} (v : FVec Ideal ⟨2, ![M, N]⟩ .f32) (acc : BitVec 32) (h : (⟨2, ![M, N]⟩ : Shape).Reduces [1] ⟨1, ![M]⟩)
    (hφ : FKind.Formats .f32) (hacc : acc = FKind.maximumf.neutral .f32 hφ) (hc : (⟨1, ![M]⟩ : Shape).ShapeCasts ⟨2, ![M, 1]⟩) (i : Fin M) :
    shapeCast ⟨2, ![M, 1]⟩ (multiReduction .maximumf [1] ⟨1, ![M]⟩ v acc h hφ hacc) hc (ix2 i 0)
      = Finset.univ.fold max (Ideal.ofBits .f32 acc) fun k : Fin N => v (ix2 i k) := by
  rw [column_apply, multiReduction_maximumf_eq_fold, h.fold_fiber_r2_a1]
  rfl

/-- Row `i` of the column of row minima is the minimum of row `i`. -/
theorem rowMin_apply {M N : ℕ} (v : FVec Ideal ⟨2, ![M, N]⟩ .f32) (acc : BitVec 32) (h : (⟨2, ![M, N]⟩ : Shape).Reduces [1] ⟨1, ![M]⟩)
    (hφ : FKind.Formats .f32) (hacc : acc = FKind.minimumf.neutral .f32 hφ) (hc : (⟨1, ![M]⟩ : Shape).ShapeCasts ⟨2, ![M, 1]⟩) (i : Fin M) :
    shapeCast ⟨2, ![M, 1]⟩ (multiReduction .minimumf [1] ⟨1, ![M]⟩ v acc h hφ hacc) hc (ix2 i 0)
      = Finset.univ.fold min (Ideal.ofBits .f32 acc) fun k : Fin N => v (ix2 i k) := by
  rw [column_apply, multiReduction_minimumf_eq_fold, h.fold_fiber_r2_a1]
  rfl

/-- Row `i` of the column of integer row sums is the sum of row `i`. -/
theorem rowSum_apply {M N : ℕ} (v : IVec ⟨2, ![M, N]⟩ 32) (h : (⟨2, ![M, N]⟩ : Shape).Reduces [1] ⟨1, ![M]⟩)
    (hacc : (0#32 : BitVec 32) = IKind.add.neutral) (hc : (⟨1, ![M]⟩ : Shape).ShapeCasts ⟨2, ![M, 1]⟩) (i : Fin M) :
    shapeCast ⟨2, ![M, 1]⟩ (multiReductionI .add [1] ⟨1, ![M]⟩ v 0#32 h hacc) hc (ix2 i 0)
      = Finset.univ.fold IntOp.addi 0#32 fun k : Fin N => v (ix2 i k) := by
  rw [column_apply, multiReductionI_eq_fold, h.fold_fiber_r2_a1]
  rfl

end Cert.Rows

end
-- ==== Proof.KernelRead.lean ====
module

public import proofs.«01_k».proof.Proof.Gen.KernelIdeal.Frame
public import proofs.«01_k».proof.Proof.Linear
public import proofs.«01_k».proof.Proof.Rows

/-! # What the kernel's body computes from one block of rows, read at an index

Each operation is read first over a column (or a matrix) that is a variable, then at the body's own one. -/

@[expose] public section

set_option maxRecDepth 16384

noncomputable section

namespace Cert.KernelIdeal.Read

open Cert.KernelIdeal Cert.KernelIdeal.Gen Idealize.ShloMosaic Cert.Linear Cert.Scale

/-! ## Over variables -/

/-- The largest absolute value of row `i`. -/
theorem maximum_of (z : FVec Ideal S256x3584 .f32) (i : Fin 256) :
    shapeCast S256x1 (multiReduction .maximumf [1] S256 (absf z) 0xFF800000#32 reduces_S256x3584_S256 (.inl rfl) rfl) shapeCasts_S256_S256x1 (ix2 i 0)
      = Finset.univ.fold max (Ideal.ofBits .f32 0xFF800000#32) fun c : Fin 3584 => FloatOps.absf (F := Ideal) (φ := .f32) (z (ix2 i c)) :=
  Rows.rowMax_apply _ _ _ _ _ _ i

/-- Whether the quotient of row `i` reaches the power of field `k + 1`, as a word. -/
theorem reached_of (z : FVec Ideal S256x1 .f32) (i : Fin 256) (k : Fin 255) :
    extui 32 (cmpf .oge (broadcastTo S256x255 (absf (mulf z (broadcast S256x1 (Scalar.ofBits .f32 0x3B124925#32)))) broadcasts_S256x1_S256x255)
      (broadcastTo S256x255 (bitcastToFloat .f32 (shli (addi (iota .tc S1x255 32 [1] iota_S1x255_d1_w32) (broadcast S1x255 1#32)) (broadcast S1x255 23#32)))
        broadcasts_S1x255_S256x255)) natLt_1_32 (ix2 i k)
      = BitVec.setWidth 32 (FloatOps.cmpf .oge (FloatOps.absf (FloatOps.mulf (F := Ideal) (φ := .f32) (z (ix2 i 0)) (FloatOps.ofBits (F := Ideal) .f32 0x3B124925#32)))
          (fieldPower (IntOp.addi (BitVec.ofNat 32 k) 1#32))) := by
  unfold fieldPower
  pointwise

/-- The count at row `i`. -/
theorem count_of (z : FVec Ideal S256x1 .f32) (i : Fin 256) :
    shapeCast S256x1 (multiReductionI .add [1] S256
      (extui 32 (cmpf .oge (broadcastTo S256x255 (absf (mulf z (broadcast S256x1 (Scalar.ofBits .f32 0x3B124925#32)))) broadcasts_S256x1_S256x255)
        (broadcastTo S256x255 (bitcastToFloat .f32 (shli (addi (iota .tc S1x255 32 [1] iota_S1x255_d1_w32) (broadcast S1x255 1#32)) (broadcast S1x255 23#32)))
          broadcasts_S1x255_S256x255)) natLt_1_32) 0#32 reduces_S256x255_S256 rfl) shapeCasts_S256_S256x1 (ix2 i 0)
      = reachedCount (FloatOps.mulf (F := Ideal) (φ := .f32) (z (ix2 i 0)) (FloatOps.ofBits (F := Ideal) .f32 0x3B124925#32)) := by
  refine (Rows.rowSum_apply _ _ _ _ i).trans ?_
  unfold reachedCount
  exact congrArg (fun g : Fin 255 → BitVec 32 => Finset.univ.fold IntOp.addi 0#32 g) (funext fun k => reached_of z i k)

/-- The exponent at row `i`, from the maximum and the count there. -/
theorem exponent_of (z : FVec Ideal S256x1 .f32) (f : IVec S256x1 32) (i : Fin 256) (h : f (ix2 i 0) = reachedCount (FloatOps.mulf (F := Ideal) (φ := .f32) (z (ix2 i 0)) (FloatOps.ofBits (F := Ideal) .f32 0x3B124925#32))) :
    k0_pay1 z f (ori (cmpi .eq f (broadcast S256x1 0#32)) (cmpi .eq f (broadcast S256x1 255#32))) k0_pay8 (ix2 i 0) = kernelExponent (z (ix2 i 0)) := by
  unfold kernelExponent exponentOfCount
  rw [← h]
  rfl

/-- The scale at row `i`, from the exponent there. -/
theorem scale_of (a : FVec Ideal S256x1 .f32) (f : IVec S256x1 32) (g : IVec S256x1 1) (h : IVec S256x1 32) (i : Fin 256) :
    k0_pay2 a f g h (ix2 i 0) = kernelPower (k0_pay1 a f g h (ix2 i 0)) := by
  unfold k0_pay2
  generalize k0_pay1 a f g h = e
  rfl

/-- The code at row `i`, column `c`, from the value there and the exponent of the row. -/
theorem code_of (z : FVec Ideal S256x3584 .f32) (a : FVec Ideal S256x1 .f32) (f : IVec S256x1 32) (g : IVec S256x1 1) (h : IVec S256x1 32) (i : Fin 256) (c : Fin 3584) :
    k0_pay3 z a f g h (ix2 i c) = code (z (ix2 i c)) (kernelPower (IntOp.subi 0#32 (k0_pay1 a f g h (ix2 i 0)))) := by
  unfold k0_pay3
  generalize k0_pay1 a f g h = e
  pointwise
  rfl

/-! ## At the body's values -/

variable (P0 : Vec Ideal S256x9472 .fp8e4m3) (P1 : Vec Ideal S9472x3584 .fp8e4m3) (P2 : Vec Ideal S256x1 .f32)
  (P3 : Vec Ideal S1x3584 .f32) (P4 : Vec Ideal S1x3584 .f32)

/-- The linear layer's value at row `i`, column `c`. -/
theorem value_apply (i : Fin 256) (c : Fin 3584) :
    k0_pay4 P0 P1 P2 P3 P4 (ix2 i c) = rowValue (fun k => P0 (ix2 i k)) (P2 (ix2 i 0)) P1 P3 P4 c := by
  unfold k0_pay4
  pointwise
  rfl

/-- The row maximum at row `i`. -/
theorem maximum_apply (i : Fin 256) :
    k0_pay5 P0 P1 P2 P3 P4 (ix2 i 0) = rowMaximum (fun k => P0 (ix2 i k)) (P2 (ix2 i 0)) P1 P3 P4 := by
  refine (maximum_of (k0_pay4 P0 P1 P2 P3 P4) i).trans ?_
  unfold rowMaximum
  refine congrArg (fun g : Fin 3584 → EReal => Finset.univ.fold max (Ideal.ofBits .f32 0xFF800000#32) g) (funext fun c => ?_)
  rw [value_apply]

/-- The exponent at row `i`. -/
theorem exponent_apply (i : Fin 256) :
    k0_pay1 (k0_pay5 P0 P1 P2 P3 P4) (k0_pay6 P0 P1 P2 P3 P4) (k0_pay7 P0 P1 P2 P3 P4) k0_pay8 (ix2 i 0) = kernelExponent (rowMaximum (fun k => P0 (ix2 i k)) (P2 (ix2 i 0)) P1 P3 P4) :=
  (exponent_of (k0_pay5 P0 P1 P2 P3 P4) (k0_pay6 P0 P1 P2 P3 P4) i (count_of (k0_pay5 P0 P1 P2 P3 P4) i)).trans
    (congrArg kernelExponent (maximum_apply P0 P1 P2 P3 P4 i))

/-- The scale the body stores at row `i`. -/
theorem scale_apply (i : Fin 256) :
    k0_pay2 (k0_pay5 P0 P1 P2 P3 P4) (k0_pay6 P0 P1 P2 P3 P4) (k0_pay7 P0 P1 P2 P3 P4) k0_pay8 (ix2 i 0) = kernelScale (rowMaximum (fun k => P0 (ix2 i k)) (P2 (ix2 i 0)) P1 P3 P4) :=
  (scale_of _ _ _ _ i).trans (congrArg kernelPower (exponent_apply P0 P1 P2 P3 P4 i))

/-- The code the body stores at row `i`, column `c`. -/
theorem code_apply (i : Fin 256) (c : Fin 3584) :
    k0_pay3 (k0_pay4 P0 P1 P2 P3 P4) (k0_pay5 P0 P1 P2 P3 P4) (k0_pay6 P0 P1 P2 P3 P4) (k0_pay7 P0 P1 P2 P3 P4) k0_pay8 (ix2 i c)
      = code (rowValue (fun k => P0 (ix2 i k)) (P2 (ix2 i 0)) P1 P3 P4 c) (kernelInverse (rowMaximum (fun k => P0 (ix2 i k)) (P2 (ix2 i 0)) P1 P3 P4)) :=
  (code_of _ _ _ _ _ i c).trans (congrArg₂ code (value_apply P0 P1 P2 P3 P4 i c)
    (congrArg (fun e => kernelPower (IntOp.subi 0#32 e)) (exponent_apply P0 P1 P2 P3 P4 i)))

end Cert.KernelIdeal.Read

end

end
-- ==== Proof.KernelValue.lean ====
module

public import proofs.«01_k».proof.Proof.KernelRead

/-! # The kernel's two result arrays after the run, as functions of the arrays the region finds -/

@[expose] public section

set_option maxRecDepth 16384

noncomputable section

namespace Cert.KernelIdeal.RefValue

open Cert.KernelIdeal Cert.KernelIdeal.Gen Cert.KernelIdeal.Read Idealize.ShloMosaic Idealize.ShloMosaic.TcCoe Idealize.SL.Sem Cert.Linear Cert.Scale
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where the blocks sit -/

/-- Row `i` of block `t` is row `256 t + i` of the array. -/
def row (t : Fin cfg0.N) (i : Fin 256) : Fin 4096 := ⟨t.val * 256 + i.val, by have := t.isLt; have hN : cfg0.N = 16 := N_0; have := i.isLt; omega⟩

/-- The block indices of the windows at every grid point. -/
theorem index_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0) :=
  (by decide +kernel : ∀ t : Fin grid0.N, _)

/-- Where element `(i, k)` of window 0's block sits in its array. -/
theorem emb0 (t : Fin cfg0.N) (i : Fin 256) (k : Fin 9472) : (win0_0.rect t).emb (ix2 i k) = ix2 (row t i) k := by
  have h := index_facts t
  funext a
  apply Fin.ext
  refine (Pipeline.Window.rect_emb_val win0_0 t (ix2 i k) a).trans ?_
  match a with
  | ⟨0, _⟩ => show win0_0.index t 0 * 256 + i.val = t.val * 256 + i.val; rw [(h.1).1]
  | ⟨1, _⟩ => show win0_0.index t 1 * 9472 + k.val = k.val; rw [(h.1).2]; omega

/-- Where element `(i, k)` of window 1's block sits in its array. -/
theorem emb1 (t : Fin cfg0.N) (i : Fin 256) (k : Fin 1) : (win0_1.rect t).emb (ix2 i k) = ix2 (row t i) k := by
  have h := index_facts t
  funext a
  apply Fin.ext
  refine (Pipeline.Window.rect_emb_val win0_1 t (ix2 i k) a).trans ?_
  match a with
  | ⟨0, _⟩ => show win0_1.index t 0 * 256 + i.val = t.val * 256 + i.val; rw [(h.2.1).1]
  | ⟨1, _⟩ => show win0_1.index t 1 * 1 + k.val = k.val; rw [(h.2.1).2]; omega

/-- Where element `(i, k)` of window 5's block sits in its array. -/
theorem emb5 (t : Fin cfg0.N) (i : Fin 256) (k : Fin 1) : (win0_5.rect t).emb (ix2 i k) = ix2 (row t i) k := by
  have h := index_facts t
  funext a
  apply Fin.ext
  refine (Pipeline.Window.rect_emb_val win0_5 t (ix2 i k) a).trans ?_
  match a with
  | ⟨0, _⟩ => show win0_5.index t 0 * 256 + i.val = t.val * 256 + i.val; rw [(h.2.2.2.2.2.1).1]
  | ⟨1, _⟩ => show win0_5.index t 1 * 1 + k.val = k.val; rw [(h.2.2.2.2.2.1).2]; omega

/-- Where element `(i, k)` of window 6's block sits in its array. -/
theorem emb6 (t : Fin cfg0.N) (i : Fin 256) (k : Fin 3584) : (win0_6.rect t).emb (ix2 i k) = ix2 (row t i) k := by
  have h := index_facts t
  funext a
  apply Fin.ext
  refine (Pipeline.Window.rect_emb_val win0_6 t (ix2 i k) a).trans ?_
  match a with
  | ⟨0, _⟩ => show win0_6.index t 0 * 256 + i.val = t.val * 256 + i.val; rw [(h.2.2.2.2.2.2).1]
  | ⟨1, _⟩ => show win0_6.index t 1 * 3584 + k.val = k.val; rw [(h.2.2.2.2.2.2).2]; omega

/-- Window 2's block is its whole array. -/
theorem emb2 (t : Fin cfg0.N) (y : (⟨2, ![9472, 3584]⟩ : Shape).Idx) : (win0_2.rect t).emb y = y := by
  have h := index_facts t
  funext a
  apply Fin.ext
  refine (Pipeline.Window.rect_emb_val win0_2 t y a).trans ?_
  match a with
  | ⟨0, _⟩ => show win0_2.index t 0 * 9472 + (y 0).val = (y 0).val; rw [(h.2.2.1).1]; omega
  | ⟨1, _⟩ => show win0_2.index t 1 * 3584 + (y 1).val = (y 1).val; rw [(h.2.2.1).2]; omega

/-- Window 3's block is its whole array. -/
theorem emb3 (t : Fin cfg0.N) (y : (⟨2, ![1, 3584]⟩ : Shape).Idx) : (win0_3.rect t).emb y = y := by
  have h := index_facts t
  funext a
  apply Fin.ext
  refine (Pipeline.Window.rect_emb_val win0_3 t y a).trans ?_
  match a with
  | ⟨0, _⟩ => show win0_3.index t 0 * 1 + (y 0).val = (y 0).val; rw [(h.2.2.2.1).1]; omega
  | ⟨1, _⟩ => show win0_3.index t 1 * 3584 + (y 1).val = (y 1).val; rw [(h.2.2.2.1).2]; omega

/-- Window 4's block is its whole array. -/
theorem emb4 (t : Fin cfg0.N) (y : (⟨2, ![1, 3584]⟩ : Shape).Idx) : (win0_4.rect t).emb y = y := by
  have h := index_facts t
  funext a
  apply Fin.ext
  refine (Pipeline.Window.rect_emb_val win0_4 t y a).trans ?_
  match a with
  | ⟨0, _⟩ => show win0_4.index t 0 * 1 + (y 0).val = (y 0).val; rw [(h.2.2.2.2.1).1]; omega
  | ⟨1, _⟩ => show win0_4.index t 1 * 3584 + (y 1).val = (y 1).val; rw [(h.2.2.2.2.1).2]; omega

/-! ## What the blocks hold -/

theorem blk0 (c : Dev nD) (t : Fin cfg0.N) (i : Fin 256) (k : Fin 9472) : iblk m c 0 t (ix2 i k) = V m c main_v0 (ix2 (row t i) k) :=
  congrArg (V m c main_v0) (emb0 t i k)
theorem blk1 (c : Dev nD) (t : Fin cfg0.N) (i : Fin 256) (k : Fin 1) : iblk m c 1 t (ix2 i k) = V m c main_v1 (ix2 (row t i) k) :=
  congrArg (V m c main_v1) (emb1 t i k)
theorem blk2 (c : Dev nD) (t : Fin cfg0.N) : iblk m c 2 t = V m c main_arg2 := funext fun y => congrArg (V m c main_arg2) (emb2 t y)
theorem blk3 (c : Dev nD) (t : Fin cfg0.N) : iblk m c 3 t = V m c main_v2 := funext fun y => congrArg (V m c main_v2) (emb3 t y)
theorem blk4 (c : Dev nD) (t : Fin cfg0.N) : iblk m c 4 t = V m c main_v3 := funext fun y => congrArg (V m c main_v3) (emb4 t y)

/-! ## The result arrays -/

/-- The scales, of the arrays the region finds. -/
def scales (c : Dev nD) : Buf (Elt Ideal) ((c : Thread nD τ).loc main_v4_0) :=
  scaleColumn kernelScale (V m c main_v0) (V m c main_v1) (V m c main_arg2) (V m c main_v2) (V m c main_v3)

/-- The codes, of the arrays the region finds. -/
def codes (c : Dev nD) : Buf (Elt Ideal) ((c : Thread nD τ).loc main_v4_1) :=
  codeMatrix kernelInverse (V m c main_v0) (V m c main_v1) (V m c main_arg2) (V m c main_v2) (V m c main_v3)

/-- The scales a point writes back are its block of the scales. -/
theorem flushed_scales (c : Dev nD) (t : Fin cfg0.N) : (dats m 0 c).flushed 5 t = ((cfg0.win 5).blk t).view.read (Elt Ideal) (scales m c) := by
  show (cfg0.win 5).cut (grid0.coords t) ((dats m 0 c).after 5 t) = _
  rw [after0_5]
  unfold_out out0_5
  rw [View.canon_unit_zero hz, View.ld_unit_zero hz, View.ld_unit_zero hz, View.ld_unit_zero hz, View.ld_unit_zero hz, View.ld_unit_zero hz]
  refine funext fun (y : (⟨2, ![256, 1]⟩ : Shape).Idx) => ?_
  obtain ⟨i, j, rfl⟩ : ∃ (i : Fin 256) (j : Fin 1), y = ix2 i j := ⟨y 0, y 1, funext fun a => by fin_cases a <;> rfl⟩
  obtain rfl : j = 0 := Subsingleton.elim _ _
  refine (scale_apply (iblk m c 0 t) (iblk m c 2 t) (iblk m c 1 t) (iblk m c 3 t) (iblk m c 4 t) i).trans ?_
  refine Eq.trans ?_ (congrArg (scales m c) (emb5 t i 0).symm)
  rw [blk2, blk3, blk4]
  exact congrArg kernelScale (congrArg₂ (fun (x : Fin 9472 → EReal) (s : EReal) => rowMaximum x s (V m c main_arg2) (V m c main_v2) (V m c main_v3))
    (funext fun k => blk0 m c t i k) (blk1 m c t i 0))

/-- The codes a point writes back are its block of the codes. -/
theorem flushed_codes (c : Dev nD) (t : Fin cfg0.N) : (dats m 0 c).flushed 6 t = ((cfg0.win 6).blk t).view.read (Elt Ideal) (codes m c) := by
  show (cfg0.win 6).cut (grid0.coords t) ((dats m 0 c).after 6 t) = _
  rw [after0_6]
  unfold_out out0_6
  rw [View.canon_unit_zero hz, View.ld_unit_zero hz, View.ld_unit_zero hz, View.ld_unit_zero hz, View.ld_unit_zero hz, View.ld_unit_zero hz]
  refine funext fun (y : (⟨2, ![256, 3584]⟩ : Shape).Idx) => ?_
  obtain ⟨i, j, rfl⟩ : ∃ (i : Fin 256) (j : Fin 3584), y = ix2 i j := ⟨y 0, y 1, funext fun a => by fin_cases a <;> rfl⟩
  refine (code_apply (iblk m c 0 t) (iblk m c 2 t) (iblk m c 1 t) (iblk m c 3 t) (iblk m c 4 t) i j).trans ?_
  refine Eq.trans ?_ (congrArg (codes m c) (emb6 t i j).symm)
  rw [blk2, blk3, blk4]
  exact congrArg₂ (fun (x : Fin 9472 → EReal) (s : EReal) => code (rowValue x s (V m c main_arg2) (V m c main_v2) (V m c main_v3) j)
      (kernelInverse (rowMaximum x s (V m c main_arg2) (V m c main_v2) (V m c main_v3))))
    (funext fun k => blk0 m c t i k) (blk1 m c t i 0)

/-- The point whose block holds a row. -/
def pointOf (r : Fin 4096) : Fin cfg0.N := ⟨r.val / 256, by have hN : cfg0.N = 16 := N_0; have := r.isLt; omega⟩

theorem row_pointOf (r : Fin 4096) : row (pointOf r) ⟨r.val % 256, Nat.mod_lt _ (by decide)⟩ = r := Fin.ext (Nat.div_add_mod' r.val 256)

/-- The blocks of scales tile their array. -/
theorem cover_scales (y : S4096x1.Idx) : ∃ t : Fin cfg0.N, (cfg0.win 5).flush t = true ∧ y ∈ ((cfg0.win 5).blk t).view.set := by
  obtain ⟨r, j, rfl⟩ : ∃ (r : Fin 4096) (j : Fin 1), y = ix2 r j := ⟨y 0, y 1, funext fun a => by fin_cases a <;> rfl⟩
  refine ⟨pointOf r, flush0_5 _, ?_⟩
  have h : ((cfg0.win 5).blk (pointOf r)).view.emb (ix2 (⟨r.val % 256, Nat.mod_lt _ (by decide)⟩ : Fin 256) j) = ix2 r j :=
    (emb5 (pointOf r) _ j).trans (by rw [row_pointOf])
  rw [← h]
  exact View.emb_mem_set _ _

/-- The blocks of codes tile their array. -/
theorem cover_codes (y : S4096x3584.Idx) : ∃ t : Fin cfg0.N, (cfg0.win 6).flush t = true ∧ y ∈ ((cfg0.win 6).blk t).view.set := by
  obtain ⟨r, j, rfl⟩ : ∃ (r : Fin 4096) (j : Fin 3584), y = ix2 r j := ⟨y 0, y 1, funext fun a => by fin_cases a <;> rfl⟩
  refine ⟨pointOf r, flush0_6 _, ?_⟩
  have h : ((cfg0.win 6).blk (pointOf r)).view.emb (ix2 (⟨r.val % 256, Nat.mod_lt _ (by decide)⟩ : Fin 256) j) = ix2 r j :=
    (emb6 (pointOf r) _ j).trans (by rw [row_pointOf])
  rw [← h]
  exact View.emb_mem_set _ _

/-- So the array of scales ends at the scales. -/
theorem final_scales (c : Dev nD) : (dats m 0 c).arrAt 5 cfg0.N = scales m c :=
  (dats m 0 c).arrAt_eq_of_cover 5 (scales m c) (fun t _ => flushed_scales m c t) cover_scales

/-- So the array of codes ends at the codes. -/
theorem final_codes (c : Dev nD) : (dats m 0 c).arrAt 6 cfg0.N = codes m c :=
  (dats m 0 c).arrAt_eq_of_cover 6 (codes m c) (fun t _ => flushed_codes m c t) cover_codes

/-! ## The run -/

/-- After the frame run, output window 5's array is `(dats m 0 c).arrAt 5 N`. -/
theorem post5 (r : PUnit × MemSt nD τ sig (Elt Ideal)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v4_1) = (dats m 0 c).arrAt 6 cfg0.N :=
  (h c).1 6

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`,
    the arguments unchanged. -/
theorem run_blocks : θ_run defs (onTc (τ := τ) (main (F := Ideal))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

/-- The run, read: the two result arrays at the scales and the codes, the arguments unchanged. -/
theorem run : θ_run defs (onTc (τ := τ) (main (F := Ideal))) ⟨m, fun _ => 0, ρ⟩ fun r => ∀ c : Dev nD,
      r.2.mem ((c : Thread nD τ).loc main_v4_0) = scales m c
      ∧ r.2.mem ((c : Thread nD τ).loc main_v4_1) = codes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_scales m c), (h c).2.1.trans (final_codes m c), (h c).2.2⟩) (run_blocks m ρ)

/-! ## The host's reshapes -/

theorem V_v0 (c : Dev nD) : V m c main_v0 = shapeCast S4096x9472 (m ((c : Thread nD τ).loc main_arg0)) shapeCasts_S2x2048x9472_S4096x9472 := rfl
theorem V_v1 (c : Dev nD) : V m c main_v1 = shapeCast S4096x1 (m ((c : Thread nD τ).loc main_arg1)) shapeCasts_S2x2048x1_S4096x1 := rfl
theorem V_v2 (c : Dev nD) : V m c main_v2 = shapeCast S1x3584 (m ((c : Thread nD τ).loc main_arg3)) shapeCasts_S3584_S1x3584 := rfl
theorem V_v3 (c : Dev nD) : V m c main_v3 = shapeCast S1x3584 (m ((c : Thread nD τ).loc main_arg4)) shapeCasts_S3584_S1x3584 := rfl

end Cert.KernelIdeal.RefValue

end

end
-- ==== Proof.ReferenceRead.lean ====
module

public import proofs.«01_k».proof.Proof.Gen.ReferenceIdeal.Frame
public import proofs.«01_k».proof.Proof.Linear
public import proofs.«01_k».proof.Proof.Rows

/-! # What the reference computes from the whole arrays, read at an index

Each operation is read first over a column (or a matrix) that is a variable, then at the body's own one. -/

@[expose] public section

set_option maxRecDepth 16384

noncomputable section

namespace Cert.ReferenceIdeal.Read

open Cert.ReferenceIdeal Cert.ReferenceIdeal.Gen Idealize.ShloMosaic Cert.Linear Cert.Scale

/-! ## Over variables -/

/-- The largest absolute value of row `i`. -/
theorem maximum_of (z : FVec Ideal S4096x3584 .f32) (i : Fin 4096) :
    shapeCast S4096x1 (multiReduction .maximumf [1] S4096 (absf z) 0xFF800000#32 reduces_S4096x3584_S4096 (.inl rfl) rfl) shapeCasts_S4096_S4096x1 (ix2 i 0)
      = Finset.univ.fold max (Ideal.ofBits .f32 0xFF800000#32) fun c : Fin 3584 => FloatOps.absf (F := Ideal) (φ := .f32) (z (ix2 i c)) :=
  Rows.rowMax_apply _ _ _ _ _ _ i

/-- The quotient at row `i`. -/
theorem quotient_of (z : FVec Ideal S4096x1 .f32) (i : Fin 4096) :
    mulf z (broadcast S4096x1 (Scalar.ofBits .f32 0x3B124925#32)) (ix2 i 0) = FloatOps.mulf (F := Ideal) (φ := .f32) (z (ix2 i 0)) (FloatOps.ofBits (F := Ideal) .f32 0x3B124925#32) := rfl

/-- Candidate `k` where its power exceeds the quotient of row `i`, 128 elsewhere. -/
theorem candidate_of (v : FVec Ideal S4096x1 .f32) (i : Fin 4096) (k : Fin 254) :
    select (cmpf .olt (broadcastTo S4096x254 v broadcasts_S4096x1_S4096x254) (broadcastTo S4096x254 (exp2 (subf (sitofp .f32 (iota .tc S1x254 32 [1] iota_S1x254_d1_w32)) (broadcast S1x254 (Scalar.ofBits .f32 0x42FA0000#32)))) broadcasts_S1x254_S4096x254))
      (broadcastTo S4096x254 (shapeCast S1x254 (subf (sitofp .f32 (iota .tc S1x254 32 [1] iota_S1x254_d1_w32)) (broadcast S1x254 (Scalar.ofBits .f32 0x42FA0000#32))) shapeCasts_S1x254_S1x254) broadcasts_S1x254_S4096x254)
      (broadcast S4096x254 (Scalar.ofBits .f32 0x43000000#32)) (ix2 i k)
      = Scalar.select (FloatOps.cmpf .olt (v (ix2 i 0)) (FloatOps.exp2 (candidate k))) (candidate k) (FloatOps.ofBits (F := Ideal) .f32 0x43000000#32) := by
  unfold candidate
  pointwise

/-- The least exponent at row `i`. -/
theorem least_of (v : FVec Ideal S4096x1 .f32) (i : Fin 4096) :
    shapeCast S4096x1 (multiReduction .minimumf [1] S4096 (select (cmpf .olt (broadcastTo S4096x254 v broadcasts_S4096x1_S4096x254) (broadcastTo S4096x254 (exp2 (subf (sitofp .f32 (iota .tc S1x254 32 [1] iota_S1x254_d1_w32)) (broadcast S1x254 (Scalar.ofBits .f32 0x42FA0000#32)))) broadcasts_S1x254_S4096x254))
      (broadcastTo S4096x254 (shapeCast S1x254 (subf (sitofp .f32 (iota .tc S1x254 32 [1] iota_S1x254_d1_w32)) (broadcast S1x254 (Scalar.ofBits .f32 0x42FA0000#32))) shapeCasts_S1x254_S1x254) broadcasts_S1x254_S4096x254)
      (broadcast S4096x254 (Scalar.ofBits .f32 0x43000000#32))) 0x7F800000#32 reduces_S4096x254_S4096 (.inl rfl) rfl) shapeCasts_S4096_S4096x1 (ix2 i 0)
      = leastExponent (v (ix2 i 0)) := by
  refine (Rows.rowMin_apply _ _ _ _ _ _ i).trans ?_
  unfold leastExponent
  exact congrArg (fun g : Fin 254 → EReal => Finset.univ.fold min (Ideal.ofBits .f32 0x7F800000#32) g) (funext fun k => candidate_of v i k)

/-- The exponent at row `i`, from the maximum, the quotient and the least exponent there. -/
theorem exponent_of (z v l : FVec Ideal S4096x1 .f32) (i : Fin 4096) (hv : v (ix2 i 0) = FloatOps.mulf (F := Ideal) (φ := .f32) (z (ix2 i 0)) (FloatOps.ofBits (F := Ideal) .f32 0x3B124925#32))
    (hl : l (ix2 i 0) = leastExponent (v (ix2 i 0))) :
    k0_pay1 z l (ori (cmpf .olt v (broadcast S4096x1 (Scalar.ofBits .f32 0x00800000#32))) (cmpf .oeq v (broadcast S4096x1 (Scalar.ofBits .f32 0x7F800000#32)))) k0_pay9 (ix2 i 0)
      = referenceExponent (z (ix2 i 0)) := by
  unfold referenceExponent exponentAt
  rw [← hv, ← hl]
  rfl

/-- The scale at row `i`, from the exponent there. -/
theorem scale_of (a l : FVec Ideal S4096x1 .f32) (g : IVec S4096x1 1) (h : FVec Ideal S4096x1 .f32) (i : Fin 4096) :
    k0_pay2 a l g h (ix2 i 0) = referencePower (k0_pay1 a l g h (ix2 i 0)) := by
  unfold k0_pay2
  generalize k0_pay1 a l g h = e
  rfl

/-- The code at row `i`, column `c`, from the value there and the exponent of the row. -/
theorem code_of (z : FVec Ideal S4096x3584 .f32) (a l : FVec Ideal S4096x1 .f32) (g : IVec S4096x1 1) (h : FVec Ideal S4096x1 .f32) (i : Fin 4096) (c : Fin 3584) :
    k0_pay3 z a l g h (ix2 i c) = code (z (ix2 i c)) (referencePowerNeg (k0_pay1 a l g h (ix2 i 0))) := by
  unfold k0_pay3 code referencePowerNeg
  generalize k0_pay1 a l g h = e
  pointwise

/-! ## At the body's values -/

variable (P0 : Vec Ideal S4096x9472 .fp8e4m3) (P1 : Vec Ideal S9472x3584 .fp8e4m3) (P2 : Vec Ideal S4096x1 .f32)
  (P3 : Vec Ideal S1x3584 .f32) (P4 : Vec Ideal S1x3584 .f32)

/-- The linear layer's value at row `i`, column `c`. -/
theorem value_apply (i : Fin 4096) (c : Fin 3584) :
    k0_pay4 P0 P1 P2 P3 P4 (ix2 i c) = rowValue (fun k => P0 (ix2 i k)) (P2 (ix2 i 0)) P1 P3 P4 c := by
  unfold k0_pay4
  pointwise
  rfl

/-- The row maximum at row `i`. -/
theorem maximum_apply (i : Fin 4096) :
    k0_pay5 P0 P1 P2 P3 P4 (ix2 i 0) = rowMaximum (fun k => P0 (ix2 i k)) (P2 (ix2 i 0)) P1 P3 P4 := by
  refine (maximum_of (k0_pay4 P0 P1 P2 P3 P4) i).trans ?_
  unfold rowMaximum
  refine congrArg (fun g : Fin 3584 → EReal => Finset.univ.fold max (Ideal.ofBits .f32 0xFF800000#32) g) (funext fun c => ?_)
  rw [value_apply]

/-- The exponent at row `i`. -/
theorem exponent_apply (i : Fin 4096) :
    k0_pay1 (k0_pay5 P0 P1 P2 P3 P4) (k0_pay7 P0 P1 P2 P3 P4) (k0_pay8 P0 P1 P2 P3 P4) k0_pay9 (ix2 i 0) = referenceExponent (rowMaximum (fun k => P0 (ix2 i k)) (P2 (ix2 i 0)) P1 P3 P4) :=
  (exponent_of (k0_pay5 P0 P1 P2 P3 P4) (k0_pay6 P0 P1 P2 P3 P4) (k0_pay7 P0 P1 P2 P3 P4) i (quotient_of (k0_pay5 P0 P1 P2 P3 P4) i)
    (least_of (k0_pay6 P0 P1 P2 P3 P4) i)).trans (congrArg referenceExponent (maximum_apply P0 P1 P2 P3 P4 i))

/-- The scale stored at row `i`. -/
theorem scale_apply (i : Fin 4096) :
    k0_pay2 (k0_pay5 P0 P1 P2 P3 P4) (k0_pay7 P0 P1 P2 P3 P4) (k0_pay8 P0 P1 P2 P3 P4) k0_pay9 (ix2 i 0) = referenceScale (rowMaximum (fun k => P0 (ix2 i k)) (P2 (ix2 i 0)) P1 P3 P4) :=
  (scale_of _ _ _ _ i).trans (congrArg referencePower (exponent_apply P0 P1 P2 P3 P4 i))

/-- The code stored at row `i`, column `c`. -/
theorem code_apply (i : Fin 4096) (c : Fin 3584) :
    k0_pay3 (k0_pay4 P0 P1 P2 P3 P4) (k0_pay5 P0 P1 P2 P3 P4) (k0_pay7 P0 P1 P2 P3 P4) (k0_pay8 P0 P1 P2 P3 P4) k0_pay9 (ix2 i c)
      = code (rowValue (fun k => P0 (ix2 i k)) (P2 (ix2 i 0)) P1 P3 P4 c) (referenceInverse (rowMaximum (fun k => P0 (ix2 i k)) (P2 (ix2 i 0)) P1 P3 P4)) :=
  (code_of _ _ _ _ _ i c).trans (congrArg₂ code (value_apply P0 P1 P2 P3 P4 i c)
    (congrArg referencePowerNeg (exponent_apply P0 P1 P2 P3 P4 i)))

end Cert.ReferenceIdeal.Read

end

end
-- ==== Proof.ReferenceValue.lean ====
module

public import proofs.«01_k».proof.Proof.ReferenceRead

/-! # The reference's two result arrays after the run, as functions of the arrays the region finds -/

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Cert.Linear Cert.Scale
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The one block of each window is its whole array -/

/-- The block indices of the windows at the one point. -/
theorem index_facts : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) :=
  (by decide +kernel : ∀ t : Fin grid0.N, _)

theorem emb0 (t : Fin cfg0.N) (y : (⟨2, ![4096, 9472]⟩ : Shape).Idx) : (win0_0.rect t).emb y = y := by
  have h := index_facts t
  funext a
  apply Fin.ext
  refine (Pipeline.Window.rect_emb_val win0_0 t y a).trans ?_
  match a with
  | ⟨0, _⟩ => show win0_0.index t 0 * 4096 + (y 0).val = (y 0).val; rw [(h.1).1]; omega
  | ⟨1, _⟩ => show win0_0.index t 1 * 9472 + (y 1).val = (y 1).val; rw [(h.1).2]; omega

theorem emb1 (t : Fin cfg0.N) (y : (⟨2, ![4096, 1]⟩ : Shape).Idx) : (win0_1.rect t).emb y = y := by
  have h := index_facts t
  funext a
  apply Fin.ext
  refine (Pipeline.Window.rect_emb_val win0_1 t y a).trans ?_
  match a with
  | ⟨0, _⟩ => show win0_1.index t 0 * 4096 + (y 0).val = (y 0).val; rw [(h.2.1).1]; omega
  | ⟨1, _⟩ => show win0_1.index t 1 * 1 + (y 1).val = (y 1).val; rw [(h.2.1).2]; omega

theorem emb2 (t : Fin cfg0.N) (y : (⟨2, ![9472, 3584]⟩ : Shape).Idx) : (win0_2.rect t).emb y = y := by
  have h := index_facts t
  funext a
  apply Fin.ext
  refine (Pipeline.Window.rect_emb_val win0_2 t y a).trans ?_
  match a with
  | ⟨0, _⟩ => show win0_2.index t 0 * 9472 + (y 0).val = (y 0).val; rw [(h.2.2.1).1]; omega
  | ⟨1, _⟩ => show win0_2.index t 1 * 3584 + (y 1).val = (y 1).val; rw [(h.2.2.1).2]; omega

theorem emb3 (t : Fin cfg0.N) (y : (⟨2, ![1, 3584]⟩ : Shape).Idx) : (win0_3.rect t).emb y = y := by
  have h := index_facts t
  funext a
  apply Fin.ext
  refine (Pipeline.Window.rect_emb_val win0_3 t y a).trans ?_
  match a with
  | ⟨0, _⟩ => show win0_3.index t 0 * 1 + (y 0).val = (y 0).val; rw [(h.2.2.2.1).1]; omega
  | ⟨1, _⟩ => show win0_3.index t 1 * 3584 + (y 1).val = (y 1).val; rw [(h.2.2.2.1).2]; omega

theorem emb4 (t : Fin cfg0.N) (y : (⟨2, ![1, 3584]⟩ : Shape).Idx) : (win0_4.rect t).emb y = y := by
  have h := index_facts t
  funext a
  apply Fin.ext
  refine (Pipeline.Window.rect_emb_val win0_4 t y a).trans ?_
  match a with
  | ⟨0, _⟩ => show win0_4.index t 0 * 1 + (y 0).val = (y 0).val; rw [(h.2.2.2.2.1).1]; omega
  | ⟨1, _⟩ => show win0_4.index t 1 * 3584 + (y 1).val = (y 1).val; rw [(h.2.2.2.2.1).2]; omega

theorem emb5 (t : Fin cfg0.N) (y : (⟨2, ![4096, 1]⟩ : Shape).Idx) : (win0_5.rect t).emb y = y := by
  have h := index_facts t
  funext a
  apply Fin.ext
  refine (Pipeline.Window.rect_emb_val win0_5 t y a).trans ?_
  match a with
  | ⟨0, _⟩ => show win0_5.index t 0 * 4096 + (y 0).val = (y 0).val; rw [(h.2.2.2.2.2.1).1]; omega
  | ⟨1, _⟩ => show win0_5.index t 1 * 1 + (y 1).val = (y 1).val; rw [(h.2.2.2.2.2.1).2]; omega

theorem emb6 (t : Fin cfg0.N) (y : (⟨2, ![4096, 3584]⟩ : Shape).Idx) : (win0_6.rect t).emb y = y := by
  have h := index_facts t
  funext a
  apply Fin.ext
  refine (Pipeline.Window.rect_emb_val win0_6 t y a).trans ?_
  match a with
  | ⟨0, _⟩ => show win0_6.index t 0 * 4096 + (y 0).val = (y 0).val; rw [(h.2.2.2.2.2.2).1]; omega
  | ⟨1, _⟩ => show win0_6.index t 1 * 3584 + (y 1).val = (y 1).val; rw [(h.2.2.2.2.2.2).2]; omega

/-! ## What the blocks hold -/

theorem blk0 (c : Dev nD) (t : Fin cfg0.N) : iblk m c 0 t = V m c main_v0 := funext fun y => congrArg (V m c main_v0) (emb0 t y)
theorem blk1 (c : Dev nD) (t : Fin cfg0.N) : iblk m c 1 t = V m c main_v1 := funext fun y => congrArg (V m c main_v1) (emb1 t y)
theorem blk2 (c : Dev nD) (t : Fin cfg0.N) : iblk m c 2 t = V m c main_arg2 := funext fun y => congrArg (V m c main_arg2) (emb2 t y)
theorem blk3 (c : Dev nD) (t : Fin cfg0.N) : iblk m c 3 t = V m c main_v2 := funext fun y => congrArg (V m c main_v2) (emb3 t y)
theorem blk4 (c : Dev nD) (t : Fin cfg0.N) : iblk m c 4 t = V m c main_v3 := funext fun y => congrArg (V m c main_v3) (emb4 t y)

/-! ## The result arrays -/

/-- The scales, of the arrays the region finds. -/
def scales (c : Dev nD) : Buf (Elt Ideal) ((c : Thread nD τ).loc main_v4_0) :=
  scaleColumn referenceScale (V m c main_v0) (V m c main_v1) (V m c main_arg2) (V m c main_v2) (V m c main_v3)

/-- The codes, of the arrays the region finds. -/
def codes (c : Dev nD) : Buf (Elt Ideal) ((c : Thread nD τ).loc main_v4_1) :=
  codeMatrix referenceInverse (V m c main_v0) (V m c main_v1) (V m c main_arg2) (V m c main_v2) (V m c main_v3)

/-- The scale the one point leaves at row `i`. -/
theorem out_scales (x0 : Vec Ideal S4096x9472 .fp8e4m3) (x1 : Vec Ideal S4096x1 .f32) (x2 : Vec Ideal S9472x3584 .fp8e4m3) (x3 x4 : Vec Ideal S1x3584 .f32) (i : Fin 4096) :
    out0_5 x0 x1 x2 x3 x4 (ix2 i 0) = referenceScale (rowMaximum (fun k => x0 (ix2 i k)) (x1 (ix2 i 0)) x2 x3 x4) := by
  unfold_out out0_5
  rw [View.canon_unit_zero hz, View.ld_unit_zero hz, View.ld_unit_zero hz, View.ld_unit_zero hz, View.ld_unit_zero hz, View.ld_unit_zero hz]
  exact scale_apply x0 x2 x1 x3 x4 i

/-- The scales the one point leaves. -/
theorem out_scales_eq (x0 : Vec Ideal S4096x9472 .fp8e4m3) (x1 : Vec Ideal S4096x1 .f32) (x2 : Vec Ideal S9472x3584 .fp8e4m3) (x3 x4 : Vec Ideal S1x3584 .f32) :
    out0_5 x0 x1 x2 x3 x4 = scaleColumn referenceScale x0 x1 x2 x3 x4 := by
  refine funext fun (y : (⟨2, ![4096, 1]⟩ : Shape).Idx) => ?_
  obtain ⟨i, j, rfl⟩ : ∃ (i : Fin 4096) (j : Fin 1), y = ix2 i j := ⟨y 0, y 1, funext fun a => by fin_cases a <;> rfl⟩
  obtain rfl : j = 0 := Subsingleton.elim _ _
  exact out_scales x0 x1 x2 x3 x4 i

/-- Reading the one block of an array of scales gives the array. -/
theorem read_scales (c : Dev nD) (t : Fin cfg0.N) (G : Buf (Elt Ideal) ((c : Thread nD τ).loc main_v4_0)) :
    ((cfg0.win 5).blk t).view.read (Elt Ideal) G = G :=
  funext fun y => congrArg G (emb5 t y)

/-- The scales the one point writes back are its block of the scales. -/
theorem flushed_scales (c : Dev nD) (t : Fin cfg0.N) : (dats m 0 c).flushed 5 t = ((cfg0.win 5).blk t).view.read (Elt Ideal) (scales m c) := by
  show (cfg0.win 5).cut (grid0.coords t) ((dats m 0 c).after 5 t) = _
  rw [after0_5, out_scales_eq, blk0, blk1, blk2, blk3, blk4]
  exact (read_scales c t _).symm

/-- The codes a point writes back are its block of the codes. -/
theorem flushed_codes (c : Dev nD) (t : Fin cfg0.N) : (dats m 0 c).flushed 6 t = ((cfg0.win 6).blk t).view.read (Elt Ideal) (codes m c) := by
  show (cfg0.win 6).cut (grid0.coords t) ((dats m 0 c).after 6 t) = _
  rw [after0_6]
  unfold_out out0_6
  rw [View.canon_unit_zero hz, View.ld_unit_zero hz, View.ld_unit_zero hz, View.ld_unit_zero hz, View.ld_unit_zero hz, View.ld_unit_zero hz]
  refine funext fun (y : (⟨2, ![4096, 3584]⟩ : Shape).Idx) => ?_
  obtain ⟨i, j, rfl⟩ : ∃ (i : Fin 4096) (j : Fin 3584), y = ix2 i j := ⟨y 0, y 1, funext fun a => by fin_cases a <;> rfl⟩
  refine (code_apply (iblk m c 0 t) (iblk m c 2 t) (iblk m c 1 t) (iblk m c 3 t) (iblk m c 4 t) i j).trans ?_
  refine Eq.trans ?_ (congrArg (codes m c) (emb6 t (ix2 i j)).symm)
  rw [blk0, blk1, blk2, blk3, blk4]
  rfl

/-- The one point. -/
def point : Fin cfg0.N := ⟨0, by have hN : cfg0.N = 1 := N_0; omega⟩

/-- The one block of scales is their array. -/
theorem cover_scales (y : S4096x1.Idx) : ∃ t : Fin cfg0.N, (cfg0.win 5).flush t = true ∧ y ∈ ((cfg0.win 5).blk t).view.set := by
  refine ⟨point, flush0_5 _, ?_⟩
  have h : ((cfg0.win 5).blk point).view.emb y = y := emb5 point y
  have e := View.emb_mem_set ((cfg0.win 5).blk point).view y
  rwa [h] at e

/-- The one block of codes is their array. -/
theorem cover_codes (y : S4096x3584.Idx) : ∃ t : Fin cfg0.N, (cfg0.win 6).flush t = true ∧ y ∈ ((cfg0.win 6).blk t).view.set := by
  refine ⟨point, flush0_6 _, ?_⟩
  have h : ((cfg0.win 6).blk point).view.emb y = y := emb6 point y
  have e := View.emb_mem_set ((cfg0.win 6).blk point).view y
  rwa [h] at e

/-- So the array of scales ends at the scales. -/
theorem final_scales (c : Dev nD) : (dats m 0 c).arrAt 5 cfg0.N = scales m c :=
  (dats m 0 c).arrAt_eq_of_cover 5 (scales m c) (fun t _ => flushed_scales m c t) cover_scales

/-- So the array of codes ends at the codes. -/
theorem final_codes (c : Dev nD) : (dats m 0 c).arrAt 6 cfg0.N = codes m c :=
  (dats m 0 c).arrAt_eq_of_cover 6 (codes m c) (fun t _ => flushed_codes m c t) cover_codes

/-! ## The run -/

/-- After the frame run, output window 5's array is `(dats m 0 c).arrAt 5 N`. -/
theorem post5 (r : PUnit × MemSt nD τ sig (Elt Ideal)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v4_1) = (dats m 0 c).arrAt 6 cfg0.N :=
  (h c).1 6

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`,
    the arguments unchanged. -/
theorem run_blocks : θ_run defs (onTc (τ := τ) (main (F := Ideal))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

/-- The run, read: the two result arrays at the scales and the codes, the arguments unchanged. -/
theorem run : θ_run defs (onTc (τ := τ) (main (F := Ideal))) ⟨m, fun _ => 0, ρ⟩ fun r => ∀ c : Dev nD,
      r.2.mem ((c : Thread nD τ).loc main_v4_0) = scales m c
      ∧ r.2.mem ((c : Thread nD τ).loc main_v4_1) = codes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_scales m c), (h c).2.1.trans (final_codes m c), (h c).2.2⟩) (run_blocks m ρ)

/-! ## The host's reshapes -/

theorem V_v0 (c : Dev nD) : V m c main_v0 = shapeCast S4096x9472 (m ((c : Thread nD τ).loc main_arg0)) shapeCasts_S2x2048x9472_S4096x9472 := rfl
theorem V_v1 (c : Dev nD) : V m c main_v1 = shapeCast S4096x1 (m ((c : Thread nD τ).loc main_arg1)) shapeCasts_S2x2048x1_S4096x1 := rfl
theorem V_v2 (c : Dev nD) : V m c main_v2 = shapeCast S1x3584 (m ((c : Thread nD τ).loc main_arg3)) shapeCasts_S3584_S1x3584 := rfl
theorem V_v3 (c : Dev nD) : V m c main_v3 = shapeCast S1x3584 (m ((c : Thread nD τ).loc main_arg4)) shapeCasts_S3584_S1x3584 := rfl

end Cert.ReferenceIdeal.RefValue

end

end
-- ==== Proof.Agreement.lean ====
/-
The kernel's two result arrays are the reference's: from memories that agree on the arguments, each program's region finds
the same arrays, and on equal arrays the two spellings of the scale agree.
-/
module

public import proofs.«01_k».proof.Defs
public import proofs.«01_k».proof.Proof.KernelValue
public import proofs.«01_k».proof.Proof.ReferenceValue

@[expose] public section

noncomputable section

namespace Cert.Agreement

open Idealize.ShloMosaic Idealize.SL.Sem Cert.Linear

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def SameArguments : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'}

/-- The regions find the same row matrix. -/
theorem same_v0 (h : SameArguments m m') (c : Dev Cert.KernelIdeal.nD) :
    Cert.ReferenceIdeal.Gen.V m' c Cert.ReferenceIdeal.main_v0 = Cert.KernelIdeal.Gen.V m c Cert.KernelIdeal.main_v0 :=
  (Cert.ReferenceIdeal.RefValue.V_v0 m' c).trans
    ((congrArg (fun a => shapeCast Cert.KernelIdeal.S4096x9472 a _) (h c).1).trans (Cert.KernelIdeal.RefValue.V_v0 m c).symm)

/-- The regions find the same column of row scales. -/
theorem same_v1 (h : SameArguments m m') (c : Dev Cert.KernelIdeal.nD) :
    Cert.ReferenceIdeal.Gen.V m' c Cert.ReferenceIdeal.main_v1 = Cert.KernelIdeal.Gen.V m c Cert.KernelIdeal.main_v1 :=
  (Cert.ReferenceIdeal.RefValue.V_v1 m' c).trans
    ((congrArg (fun a => shapeCast Cert.KernelIdeal.S4096x1 a _) (h c).2.1).trans (Cert.KernelIdeal.RefValue.V_v1 m c).symm)

/-- The regions find the same weights. -/
theorem same_arg2 (h : SameArguments m m') (c : Dev Cert.KernelIdeal.nD) :
    Cert.ReferenceIdeal.Gen.V m' c Cert.ReferenceIdeal.main_arg2 = Cert.KernelIdeal.Gen.V m c Cert.KernelIdeal.main_arg2 :=
  (Cert.ReferenceIdeal.Gen.V_main_arg2 m' c).trans ((h c).2.2.1.trans (Cert.KernelIdeal.Gen.V_main_arg2 m c).symm)

/-- The regions find the same row of weight scales. -/
theorem same_v2 (h : SameArguments m m') (c : Dev Cert.KernelIdeal.nD) :
    Cert.ReferenceIdeal.Gen.V m' c Cert.ReferenceIdeal.main_v2 = Cert.KernelIdeal.Gen.V m c Cert.KernelIdeal.main_v2 :=
  (Cert.ReferenceIdeal.RefValue.V_v2 m' c).trans
    ((congrArg (fun a => shapeCast Cert.KernelIdeal.S1x3584 a _) (h c).2.2.2.1).trans (Cert.KernelIdeal.RefValue.V_v2 m c).symm)

/-- The regions find the same row of biases. -/
theorem same_v3 (h : SameArguments m m') (c : Dev Cert.KernelIdeal.nD) :
    Cert.ReferenceIdeal.Gen.V m' c Cert.ReferenceIdeal.main_v3 = Cert.KernelIdeal.Gen.V m c Cert.KernelIdeal.main_v3 :=
  (Cert.ReferenceIdeal.RefValue.V_v3 m' c).trans
    ((congrArg (fun a => shapeCast Cert.KernelIdeal.S1x3584 a _) (h c).2.2.2.2).trans (Cert.KernelIdeal.RefValue.V_v3 m c).symm)

/-- The reference's scales are the kernel's. -/
theorem scales (h : SameArguments m m') (c : Dev Cert.KernelIdeal.nD) :
    Cert.ReferenceIdeal.RefValue.scales m' c = Cert.KernelIdeal.RefValue.scales m c := by
  unfold Cert.ReferenceIdeal.RefValue.scales Cert.KernelIdeal.RefValue.scales
  rw [same_v0 h c, same_v1 h c, same_arg2 h c, same_v2 h c, same_v3 h c]
  exact (scaleColumn_eq _ _ _ _ _).symm

/-- The reference's codes are the kernel's. -/
theorem codes (h : SameArguments m m') (c : Dev Cert.KernelIdeal.nD) :
    Cert.ReferenceIdeal.RefValue.codes m' c = Cert.KernelIdeal.RefValue.codes m c := by
  unfold Cert.ReferenceIdeal.RefValue.codes Cert.KernelIdeal.RefValue.codes
  rw [same_v0 h c, same_v1 h c, same_arg2 h c, same_v2 h c, same_v3 h c]
  exact (codeMatrix_eq _ _ _ _ _).symm

/-- From memories that agree on the arguments, the kernel and the reference end with the same scales and the same codes. -/
theorem algebraic [hKernelIdeal : Cert.KernelIdeal.Facts] [hReferenceIdeal : Cert.ReferenceIdeal.Facts] : Cert.algebraic_KernelIdeal_ReferenceIdeal := by
  intro m ρ m' ρ' _ h
  exact ⟨fun c => Cert.KernelIdeal.RefValue.scales m c, fun c => Cert.KernelIdeal.RefValue.codes m c,
    Cert.KernelIdeal.RefValue.run m ρ,
    (θ_run _ _ _).mono (fun _ k c => ⟨(k c).1.trans (scales h c), (k c).2.1.trans (codes h c), (k c).2.2⟩) (Cert.ReferenceIdeal.RefValue.run m' ρ')⟩

end Cert.Agreement

end

end
-- ==== Proof.lean ====
/-
The proof of `Cert.Claim`: each program's frame is the generated one, and the value claim is `Cert.Agreement.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agreement
public import Idealize.ShloMosaic.Adequacy
public import Idealize.ShloMosaic.Init

@[expose] public section

noncomputable section

namespace Cert.Proof

open Idealize.ShloMosaic Idealize.SL.Sem

/-- The kernel, its idealization and the reference each run and leave the machine quiescent; the idealization is the
kernel's; and the idealized kernel ends with the reference's results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Agreement.algebraic⟩

end Cert.Proof

end
